-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_drawn [hPre_as_drawn : Cert.Pre_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_drawn [hPre_as_drawn : Cert.Pre_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_as_drawn [hKernelIdeal : Cert.KernelIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_as_drawn [hReferenceIdeal : Cert.ReferenceIdeal.Facts] [hPre_as_drawn : Cert.Pre_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_as_drawn [hKernelIdeal : Cert.KernelIdeal.Facts] [hReferenceIdeal : Cert.ReferenceIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_as_drawn : Cert.Pre_as_drawn.Facts),
    quiescent_Kernel (hKernel := hKernel)
    ∧ quiescent_KernelIdeal (hKernelIdeal := hKernelIdeal)
    ∧ quiescent_KernelIdeal_pre_as_drawn (hKernelIdeal := hKernelIdeal) (hPre_as_drawn := hPre_as_drawn)
    ∧ quiescent_ReferenceIdeal (hReferenceIdeal := hReferenceIdeal)
    ∧ quiescent_ReferenceIdeal_pre_as_drawn (hReferenceIdeal := hReferenceIdeal) (hPre_as_drawn := hPre_as_drawn)
    ∧ preserves_Kernel_KernelIdeal
    ∧ algebraic_KernelIdeal_ReferenceIdeal_pre_as_drawn (hKernelIdeal := hKernelIdeal) (hReferenceIdeal := hReferenceIdeal) (hPre_as_drawn := hPre_as_drawn)
-- ==== Pre_as_drawn.lean ====
abbrev S16384x512 : Shape := ⟨2, ![16384, 512]⟩
abbrev S8x16 : Shape := ⟨2, ![8, 16]⟩
abbrev S4x32 : Shape := ⟨2, ![4, 32]⟩
abbrev S64 : Shape := ⟨1, ![64]⟩
abbrev S16x128 : Shape := ⟨2, ![16, 128]⟩
abbrev S128 : Shape := ⟨1, ![128]⟩
abbrev S32x128 : Shape := ⟨2, ![32, 128]⟩
abbrev S64x128 : Shape := ⟨2, ![64, 128]⟩
abbrev S13x128 : Shape := ⟨2, ![13, 128]⟩
abbrev S_ : Shape := ⟨0, ![]⟩

class Facts : Prop where
  bcast_S_S8x16 : S_.BroadcastsInDim S8x16 (![] : Fin 0 → Fin S8x16.rank)
  bcast_S_S4x32 : S_.BroadcastsInDim S4x32 (![] : Fin 0 → Fin S4x32.rank)
  bcast_S_S64 : S_.BroadcastsInDim S64 (![] : Fin 0 → Fin S64.rank)
  bcast_S_S128 : S_.BroadcastsInDim S128 (![] : Fin 0 → Fin S128.rank)
  bcast_S_S16384x512 : S_.BroadcastsInDim S16384x512 (![] : Fin 0 → Fin S16384x512.rank)
  bcast_S_S64x128 : S_.BroadcastsInDim S64x128 (![] : Fin 0 → Fin S64x128.rank)

variable [Facts]

def fn_part1 {F : FTy → Type} [FloatOps F] (main_arg0 : FVec F S16384x512 .f32) (main_arg7 : FVec F S128 .f32) (main_arg8 : FVec F S64x128 .f32) (main_arg9 : FVec F S128 .f32) (main_v4 : IVec S8x16 1) (main_v9 : IVec S4x32 1) (main_v14 : IVec S64 1) (main_v16 : IVec S128 1) : IVec S8x16 1 × IVec S4x32 1 × IVec S64 1 × IVec S128 1 × IVec S128 1 × IVec S128 1 × IVec S16384x512 1 × IVec S64x128 1 :=
  let main_cst_5 : FVec F S_ .f32 := constant S_ .f32 0x00000000#32
  let main_v17 : FVec F S128 .f32 := broadcastInDim S128 ![] bcast_S_S128 main_cst_5
  let main_v18 : IVec S128 1 := cmpf .oeq main_arg7 main_v17
  let main_cst_6 : FVec F S_ .f32 := constant S_ .f32 0x00000000#32
  let main_v19 : FVec F S128 .f32 := broadcastInDim S128 ![] bcast_S_S128 main_cst_6
  let main_v20 : IVec S128 1 := cmpf .oeq main_arg9 main_v19
  let main_v21 : FVec F S16384x512 .f32 := Host.absf main_arg0
  let main_cst_7 : FVec F S_ .f32 := constant S_ .f32 0x7F800000#32
  let main_v22 : FVec F S16384x512 .f32 := broadcastInDim S16384x512 ![] bcast_S_S16384x512 main_cst_7
  let main_v23 : IVec S16384x512 1 := cmpf .olt main_v21 main_v22
  let main_v24 : FVec F S64x128 .f32 := Host.absf main_arg8
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  (main_v4, main_v9, main_v14, main_v16, main_v18, main_v20, main_v23, main_v26)

def fn {F : FTy → Type} [FloatOps F] (main_arg0 : FVec F S16384x512 .f32) (main_arg1 : IVec S8x16 32) (main_arg2 : IVec S4x32 32) (main_arg3 : IVec S64 32) (main_arg4 : FVec F S16x128 .f32) (main_arg5 : FVec F S128 .f32) (main_arg6 : FVec F S32x128 .f32) (main_arg7 : FVec F S128 .f32) (main_arg8 : FVec F S64x128 .f32) (main_arg9 : FVec F S128 .f32) (main_arg10 : FVec F S13x128 .f32) : IVec S8x16 1 × IVec S4x32 1 × IVec S64 1 × IVec S128 1 × IVec S128 1 × IVec S128 1 × IVec S16384x512 1 × IVec S64x128 1 :=
  let main_c : IVec S_ 32 := constantI S_ 32 0#32
  let main_v0 : IVec S8x16 32 := broadcastInDim S8x16 ![] bcast_S_S8x16 main_c
  let main_v1 : IVec S8x16 1 := cmpi .sge main_arg1 main_v0
  let main_c_0 : IVec S_ 32 := constantI S_ 32 512#32
  let main_v2 : IVec S8x16 32 := broadcastInDim S8x16 ![] bcast_S_S8x16 main_c_0
  let main_v3 : IVec S8x16 1 := cmpi .slt main_arg1 main_v2
  let main_v4 : IVec S8x16 1 := andi main_v1 main_v3
  let main_c_1 : IVec S_ 32 := constantI S_ 32 0#32
  let main_v5 : IVec S4x32 32 := broadcastInDim S4x32 ![] bcast_S_S4x32 main_c_1
  let main_v6 : IVec S4x32 1 := cmpi .sge main_arg2 main_v5
  let main_c_2 : IVec S_ 32 := constantI S_ 32 512#32
  let main_v7 : IVec S4x32 32 := broadcastInDim S4x32 ![] bcast_S_S4x32 main_c_2
  let main_v8 : IVec S4x32 1 := cmpi .slt main_arg2 main_v7
  let main_v9 : IVec S4x32 1 := andi main_v6 main_v8
  let main_c_3 : IVec S_ 32 := constantI S_ 32 0#32
  let main_v10 : IVec S64 32 := broadcastInDim S64 ![] bcast_S_S64 main_c_3
  let main_v11 : IVec S64 1 := cmpi .sge main_arg3 main_v10
  let main_c_4 : IVec S_ 32 := constantI S_ 32 512#32
  let main_v12 : IVec S64 32 := broadcastInDim S64 ![] bcast_S_S64 main_c_4
  let main_v13 : IVec S64 1 := cmpi .slt main_arg3 main_v12
  let main_v14 : IVec S64 1 := andi main_v11 main_v13
  let main_cst : FVec F S_ .f32 := constant S_ .f32 0x00000000#32
  let main_v15 : FVec F S128 .f32 := broadcastInDim S128 ![] bcast_S_S128 main_cst
  let main_v16 : IVec S128 1 := cmpf .oeq main_arg5 main_v15
  fn_part1 (F := F) main_arg0 main_arg7 main_arg8 main_arg9 main_v4 main_v9 main_v14 main_v16
-- ==== Kernel.lean ====
abbrev S16384x512 : Shape := ⟨2, ![16384, 512]⟩
abbrev S8x16 : Shape := ⟨2, ![8, 16]⟩
abbrev S4x32 : Shape := ⟨2, ![4, 32]⟩
abbrev S64 : Shape := ⟨1, ![64]⟩
abbrev S16x128 : Shape := ⟨2, ![16, 128]⟩
abbrev S128 : Shape := ⟨1, ![128]⟩
abbrev S32x128 : Shape := ⟨2, ![32, 128]⟩
abbrev S64x128 : Shape := ⟨2, ![64, 128]⟩
abbrev S13x128 : Shape := ⟨2, ![13, 128]⟩
abbrev S256 : Shape := ⟨1, ![256]⟩
abbrev S1x256 : Shape := ⟨2, ![1, 256]⟩
abbrev S1x64 : Shape := ⟨2, ![1, 64]⟩
abbrev S13x16384x128 : Shape := ⟨3, ![13, 16384, 128]⟩
abbrev S2048x512 : Shape := ⟨2, ![2048, 512]⟩
abbrev S13x2048x128 : Shape := ⟨3, ![13, 2048, 128]⟩
abbrev S512x384 : Shape := ⟨2, ![512, 384]⟩
abbrev S256x1536 : Shape := ⟨2, ![256, 1536]⟩
abbrev S512x256 : Shape := ⟨2, ![512, 256]⟩
abbrev S512x64 : Shape := ⟨2, ![512, 64]⟩
abbrev S512x128 : Shape := ⟨2, ![512, 128]⟩
abbrev S128x128 : Shape := ⟨2, ![128, 128]⟩
abbrev S128x1024 : Shape := ⟨2, ![128, 1024]⟩
abbrev S128x512 : Shape := ⟨2, ![128, 512]⟩
abbrev S128x1536 : Shape := ⟨2, ![128, 1536]⟩
abbrev S2048x384 : Shape := ⟨2, ![2048, 384]⟩
abbrev S2048x256 : Shape := ⟨2, ![2048, 256]⟩
abbrev S2048x1536 : Shape := ⟨2, ![2048, 1536]⟩
abbrev S2048x128 : Shape := ⟨2, ![2048, 128]⟩
abbrev S1x128 : Shape := ⟨2, ![1, 128]⟩
abbrev S1x2048x128 : Shape := ⟨3, ![1, 2048, 128]⟩
abbrev S16384x13x128 : Shape := ⟨3, ![16384, 13, 128]⟩

abbrev nBuf : Space → Nat
  | .hbm => 18
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S8x16, .i32⟩
  | .hbm, ⟨2, _⟩ => ⟨S4x32, .i32⟩
  | .hbm, ⟨3, _⟩ => ⟨S64, .i32⟩
  | .hbm, ⟨4, _⟩ => ⟨S16x128, .f32⟩
  | .hbm, ⟨5, _⟩ => ⟨S128, .f32⟩
  | .hbm, ⟨6, _⟩ => ⟨S32x128, .f32⟩
  | .hbm, ⟨7, _⟩ => ⟨S128, .f32⟩
  | .hbm, ⟨8, _⟩ => ⟨S64x128, .f32⟩
  | .hbm, ⟨9, _⟩ => ⟨S128, .f32⟩
  | .hbm, ⟨10, _⟩ => ⟨S13x128, .f32⟩
  | .hbm, ⟨11, _⟩ => ⟨S128, .i32⟩
  | .hbm, ⟨12, _⟩ => ⟨S128, .i32⟩
  | .hbm, ⟨13, _⟩ => ⟨S256, .i32⟩
  | .hbm, ⟨14, _⟩ => ⟨S1x256, .i32⟩
  | .hbm, ⟨15, _⟩ => ⟨S1x64, .i32⟩
  | .hbm, ⟨16, _⟩ => ⟨S13x16384x128, .f32⟩
  | .hbm, ⟨17, _⟩ => ⟨S16384x13x128, .f32⟩
  | .local _ .vmem, ⟨0, _⟩ => ⟨S1x256, .i32⟩
  | .local _ .vmem, ⟨1, _⟩ => ⟨S1x64, .i32⟩
  | .local _ .vmem, ⟨2, _⟩ => ⟨S16x128, .f32⟩
  | .local _ .vmem, ⟨3, _⟩ => ⟨S32x128, .f32⟩
  | .local _ .vmem, ⟨4, _⟩ => ⟨S64x128, .f32⟩
  | .local _ .vmem, ⟨5, _⟩ => ⟨S13x128, .f32⟩
  | .local _ .vmem, ⟨6, _⟩ => ⟨S2048x512, .f32⟩
  | .local _ .vmem, ⟨7, _⟩ => ⟨S2048x512, .f32⟩
  | .local _ .vmem, ⟨8, _⟩ => ⟨S13x2048x128, .f32⟩
  | .local _ .vmem, ⟨9, _⟩ => ⟨S13x2048x128, .f32⟩
  | .local _ .vmem, ⟨10, _⟩ => ⟨S512x384, .bf16⟩
  | .local _ .vmem, ⟨11, _⟩ => ⟨S256x1536, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S13x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S13x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16384x512 : Shape := ⟨2, ![16384, 512]⟩
abbrev S8x16 : Shape := ⟨2, ![8, 16]⟩
abbrev S4x32 : Shape := ⟨2, ![4, 32]⟩
abbrev S64 : Shape := ⟨1, ![64]⟩
abbrev S16x128 : Shape := ⟨2, ![16, 128]⟩
abbrev S128 : Shape := ⟨1, ![128]⟩
abbrev S32x128 : Shape := ⟨2, ![32, 128]⟩
abbrev S64x128 : Shape := ⟨2, ![64, 128]⟩
abbrev S13x128 : Shape := ⟨2, ![13, 128]⟩
abbrev S_ : Shape := ⟨0, ![]⟩
abbrev S8x16x1 : Shape := ⟨3, ![8, 16, 1]⟩
abbrev S16384x8x16 : Shape := ⟨3, ![16384, 8, 16]⟩
abbrev S16384x8x128 : Shape := ⟨3, ![16384, 8, 128]⟩
abbrev S1x1x128 : Shape := ⟨3, ![1, 1, 128]⟩
abbrev S4x32x1 : Shape := ⟨3, ![4, 32, 1]⟩
abbrev S16384x4x32 : Shape := ⟨3, ![16384, 4, 32]⟩
abbrev S16384x4x128 : Shape := ⟨3, ![16384, 4, 128]⟩
abbrev S64x1 : Shape := ⟨2, ![64, 1]⟩
abbrev S1 : Shape := ⟨1, ![1]⟩
abbrev S1x1 : Shape := ⟨2, ![1, 1]⟩
abbrev S16384x64 : Shape := ⟨2, ![16384, 64]⟩
abbrev S16384x128 : Shape := ⟨2, ![16384, 128]⟩
abbrev S1x128 : Shape := ⟨2, ![1, 128]⟩
abbrev S16384x1x128 : Shape := ⟨3, ![16384, 1, 128]⟩
abbrev S16384x13x128 : Shape := ⟨3, ![16384, 13, 128]⟩
abbrev S1x13x128 : Shape := ⟨3, ![1, 13, 128]⟩

abbrev nBuf : Space → Nat
  | .hbm => 69
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S8x16, .i32⟩
  | .hbm, ⟨2, _⟩ => ⟨S4x32, .i32⟩
  | .hbm, ⟨3, _⟩ => ⟨S64, .i32⟩
  | .hbm, ⟨4, _⟩ => ⟨S16x128, .f32⟩
  | .hbm, ⟨5, _⟩ => ⟨S128, .f32⟩
  | .hbm, ⟨6, _⟩ => ⟨S32x128, .f32⟩
  | .hbm, ⟨7, _⟩ => ⟨S128, .f32⟩
  | .hbm, ⟨8, _⟩ => ⟨S64x128, .f32⟩
  | .hbm, ⟨9, _⟩ => ⟨S128, .f32⟩
  | .hbm, ⟨10, _⟩ => ⟨S13x128, .f32⟩
  | .hbm, ⟨11, _⟩ => ⟨S_, .i32⟩
  | .hbm, ⟨12, _⟩ => ⟨S8x16, .i32⟩
  | .hbm, ⟨13, _⟩ => ⟨S8x16, .i1⟩
  | .hbm, ⟨14, _⟩ => ⟨S_, .i32⟩
  | .hbm, ⟨15, _⟩ => ⟨S8x16, .i32⟩
  | .hbm, ⟨16, _⟩ => ⟨S8x16, .i32⟩
  | .hbm, ⟨17, _⟩ => ⟨S8x16, .i32⟩
  | .hbm, ⟨18, _⟩ => ⟨S8x16x1, .i32⟩
  | .hbm, ⟨19, _⟩ => ⟨S16384x8x16, .f32⟩
  | .hbm, ⟨20, _⟩ => ⟨S16384x8x128, .f32⟩
  | .hbm, ⟨21, _⟩ => ⟨S1x1x128, .f32⟩
  | .hbm, ⟨22, _⟩ => ⟨S16384x8x128, .f32⟩
  | .hbm, ⟨23, _⟩ => ⟨S16384x8x128, .f32⟩
  | .hbm, ⟨24, _⟩ => ⟨S_, .i32⟩
  | .hbm, ⟨25, _⟩ => ⟨S4x32, .i32⟩
  | .hbm, ⟨26, _⟩ => ⟨S4x32, .i1⟩
  | .hbm, ⟨27, _⟩ => ⟨S_, .i32⟩
  | .hbm, ⟨28, _⟩ => ⟨S4x32, .i32⟩
  | .hbm, ⟨29, _⟩ => ⟨S4x32, .i32⟩
  | .hbm, ⟨30, _⟩ => ⟨S4x32, .i32⟩
  | .hbm, ⟨31, _⟩ => ⟨S4x32x1, .i32⟩
  | .hbm, ⟨32, _⟩ => ⟨S16384x4x32, .f32⟩
  | .hbm, ⟨33, _⟩ => ⟨S16384x4x128, .f32⟩
  | .hbm, ⟨34, _⟩ => ⟨S1x1x128, .f32⟩
  | .hbm, ⟨35, _⟩ => ⟨S16384x4x128, .f32⟩
  | .hbm, ⟨36, _⟩ => ⟨S16384x4x128, .f32⟩
  | .hbm, ⟨37, _⟩ => ⟨S_, .i32⟩
  | .hbm, ⟨38, _⟩ => ⟨S64, .i32⟩
  | .hbm, ⟨39, _⟩ => ⟨S64, .i1⟩
  | .hbm, ⟨40, _⟩ => ⟨S_, .i32⟩
  | .hbm, ⟨41, _⟩ => ⟨S64, .i32⟩
  | .hbm, ⟨42, _⟩ => ⟨S64, .i32⟩
  | .hbm, ⟨43, _⟩ => ⟨S64, .i32⟩
  | .hbm, ⟨44, _⟩ => ⟨S64x1, .i32⟩
  | .hbm, ⟨45, _⟩ => ⟨S1, .i32⟩
  | .hbm, ⟨46, _⟩ => ⟨S_, .i32⟩
  | .hbm, ⟨47, _⟩ => ⟨S64x1, .i32⟩
  | .hbm, ⟨48, _⟩ => ⟨S64x1, .i1⟩
  | .hbm, ⟨49, _⟩ => ⟨S1x1, .i32⟩
  | .hbm, ⟨50, _⟩ => ⟨S64x1, .i32⟩
  | .hbm, ⟨51, _⟩ => ⟨S64x1, .i1⟩
  | .hbm, ⟨52, _⟩ => ⟨S64x1, .i1⟩
  | .hbm, ⟨53, _⟩ => ⟨S_, .i1⟩
  | .hbm, ⟨54, _⟩ => ⟨S64, .i1⟩
  | .hbm, ⟨55, _⟩ => ⟨S16384x64, .f32⟩
  | .hbm, ⟨56, _⟩ => ⟨S16384x64, .i1⟩
  | .hbm, ⟨57, _⟩ => ⟨S_, .f32⟩
  | .hbm, ⟨58, _⟩ => ⟨S16384x64, .f32⟩
  | .hbm, ⟨59, _⟩ => ⟨S16384x64, .f32⟩
  | .hbm, ⟨60, _⟩ => ⟨S16384x128, .f32⟩
  | .hbm, ⟨61, _⟩ => ⟨S1x128, .f32⟩
  | .hbm, ⟨62, _⟩ => ⟨S16384x128, .f32⟩
  | .hbm, ⟨63, _⟩ => ⟨S16384x128, .f32⟩
  | .hbm, ⟨64, _⟩ => ⟨S16384x1x128, .f32⟩
  | .hbm, ⟨65, _⟩ => ⟨S16384x13x128, .f32⟩
  | .hbm, ⟨66, _⟩ => ⟨S1x13x128, .f32⟩
  | .hbm, ⟨67, _⟩ => ⟨S16384x13x128, .f32⟩
  | .hbm, ⟨68, _⟩ => ⟨S16384x13x128, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩

abbrev nD : Nat := 1
abbrev τ : Topo := Topo.v7x

variable {F : FTy → Type} [FloatOps F]
-- ==== Proof.Pre.lean ====
/- What the precondition says about the kernel's arguments: the index words are below 512, the three biases are zero, and
   the observations and the weights of the last group are real numbers. -/
module

public import Idealize.ShloMosaic.Lib.WordCmp
public import Idealize.ShloMosaic.Lib.Pipeline.ValueKit
public import proofs.«01_k».proof.Pre_as_drawn

@[expose] public section

set_option maxRecDepth 16384

noncomputable section

namespace Cert.Pre_as_drawn

open Idealize.ShloMosaic

/-- The shape relations of the precondition's operations. -/
theorem facts : Facts where
  bcast_S_S8x16 := by decide
  bcast_S_S4x32 := by decide
  bcast_S_S64 := by decide
  bcast_S_S128 := by decide
  bcast_S_S16384x512 := by decide
  bcast_S_S64x128 := by decide

variable [Facts]

/-- A word that is at least 0 and below 512 in the signed order is below 512 as a natural number. -/
theorem word_lt (w : BitVec 32) (h : IntOp.andi (IntOp.cmpi .sge w 0#32) (IntOp.cmpi .slt w 512#32) = 1#1) : w.toNat < 512 := by
  rw [show (512#32 : BitVec 32) = BitVec.ofNat 32 512 from rfl, WordCmp.andi_sge_zero_slt_ofNat (by decide)] at h
  by_contra hc
  rw [decide_eq_false hc] at h
  exact absurd h (by decide)

/-- The bit of a true statement. -/
theorem of_bit {p : Prop} [Decidable p] (h : BitVec.ofBool (decide p) = 1#1) : p := by
  by_contra hc
  rw [decide_eq_false hc] at h
  exact absurd h (by decide)

/-- The pattern with an all-ones exponent and a zero fraction is infinity. -/
theorem inf_bits : Ideal.ofBits .f32 0x7F800000#32 = ⊤ := by simp [Ideal.ofBits, Ideal.ieee]

/-- An extended real whose absolute value is below infinity is a real number. -/
theorem real_of_abs (x : EReal) (h : max x (-x) < ⊤) : ∃ z : ℝ, x = (z : EReal) := by
  have h1 : x < ⊤ := lt_of_le_of_lt (le_max_left _ _) h
  have h2 : -x < ⊤ := lt_of_le_of_lt (le_max_right _ _) h
  induction x using EReal.rec with
  | bot => exact absurd h2 (by simp)
  | top => exact absurd h1 (lt_irrefl _)
  | coe z => exact ⟨z, rfl⟩

variable (x0 : FVec Ideal S16384x512 .f32) (x1 : IVec S8x16 32) (x2 : IVec S4x32 32) (x3 : IVec S64 32) (x4 : FVec Ideal S16x128 .f32)
  (x5 : FVec Ideal S128 .f32) (x6 : FVec Ideal S32x128 .f32) (x7 : FVec Ideal S128 .f32) (x8 : FVec Ideal S64x128 .f32)
  (x9 : FVec Ideal S128 .f32) (x10 : FVec Ideal S13x128 .f32)

/-- The column words of the first group are below 512. -/
theorem range1 (h : (fn (F := Ideal) x0 x1 x2 x3 x4 x5 x6 x7 x8 x9 x10).1 = fun _ => 1#1) (t : Fin 8) (d : Fin 16) :
    (x1 (ix2 t d)).toNat < 512 := word_lt _ (congrFun h (ix2 t d))

/-- The column words of the second group are below 512. -/
theorem range2 (h : (fn (F := Ideal) x0 x1 x2 x3 x4 x5 x6 x7 x8 x9 x10).2.1 = fun _ => 1#1) (t : Fin 4) (d : Fin 32) :
    (x2 (ix2 t d)).toNat < 512 := word_lt _ (congrFun h (ix2 t d))

/-- The column words of the last group are below 512. -/
theorem range3 (h : (fn (F := Ideal) x0 x1 x2 x3 x4 x5 x6 x7 x8 x9 x10).2.2.1 = fun _ => 1#1) (d : Fin 64) :
    (x3 (ix1 d)).toNat < 512 := word_lt _ (congrFun h (ix1 d))

/-- The bias of the first group is zero. -/
theorem zero5 (h : (fn (F := Ideal) x0 x1 x2 x3 x4 x5 x6 x7 x8 x9 x10).2.2.2.1 = fun _ => 1#1) (l : Fin 128) :
    (x5 (ix1 l) : EReal) = 0 := by
  have e := congrFun h (ix1 l)
  unfold fn fn_part1 at e
  pointwise at e
  exact of_bit e

/-- The bias of the second group is zero. -/
theorem zero7 (h : (fn (F := Ideal) x0 x1 x2 x3 x4 x5 x6 x7 x8 x9 x10).2.2.2.2.1 = fun _ => 1#1) (l : Fin 128) :
    (x7 (ix1 l) : EReal) = 0 := by
  have e := congrFun h (ix1 l)
  unfold fn fn_part1 at e
  pointwise at e
  exact of_bit e

/-- The bias of the last group is zero. -/
theorem zero9 (h : (fn (F := Ideal) x0 x1 x2 x3 x4 x5 x6 x7 x8 x9 x10).2.2.2.2.2.1 = fun _ => 1#1) (l : Fin 128) :
    (x9 (ix1 l) : EReal) = 0 := by
  have e := congrFun h (ix1 l)
  unfold fn fn_part1 at e
  pointwise at e
  exact of_bit e

/-- The observations are real numbers. -/
theorem real0 (h : (fn (F := Ideal) x0 x1 x2 x3 x4 x5 x6 x7 x8 x9 x10).2.2.2.2.2.2.1 = fun _ => 1#1) (b : Fin 16384) (o : Fin 512) :
    ∃ z : ℝ, (x0 (ix2 b o) : EReal) = (z : EReal) := by
  have e := congrFun h (ix2 b o)
  unfold fn fn_part1 at e
  pointwise at e
  have e' := of_bit e
  rw [inf_bits] at e'
  exact real_of_abs _ e'

/-- The last group's weights are real numbers. -/
theorem real8 (h : (fn (F := Ideal) x0 x1 x2 x3 x4 x5 x6 x7 x8 x9 x10).2.2.2.2.2.2.2 = fun _ => 1#1) (b : Fin 64) (o : Fin 128) :
    ∃ z : ℝ, (x8 (ix2 b o) : EReal) = (z : EReal) := by
  have e := congrFun h (ix2 b o)
  unfold fn fn_part1 at e
  pointwise at e
  have e' := of_bit e
  rw [inf_bits] at e'
  exact real_of_abs _ e'

end Cert.Pre_as_drawn
-- ==== Proof.Pure.lean ====
/- What the kernel's body computes, read one element at a time over the extended reals: the one-hot columns, the
   block-diagonal weights, and the two products with them. Every lemma is about vectors given as variables. -/
module

public import Idealize.ShloMosaic.Lib.Pipeline.ValueKit
public import proofs.«01_k».proof.Proof.Gen.KernelIdeal.Frame

@[expose] public section

set_option maxRecDepth 16384

noncomputable section

namespace Cert.KernelIdeal.Value

open Idealize.ShloMosaic Idealize.ShloMosaic.TcCoe Idealize.SL.Sem
open Cert.KernelIdeal Cert.KernelIdeal.Gen

/-! ## Selection by a one-hot column -/

/-- The observation column an index word names: the word read signed and kept within the 512 columns. -/
def col (w : BitVec 32) : Fin 512 := ⟨min w.toInt.toNat 511, by omega⟩

/-- A word below 512 names the column of its own number. -/
theorem col_val (w : BitVec 32) (h : w.toNat < 512) : (col w : ℕ) = w.toNat := by
  have e : w.toInt = (w.toNat : Int) := WordCmp.toInt_eq_toNat_of_lt_half (by omega)
  show min w.toInt.toNat 511 = w.toNat
  rw [e, Int.toNat_natCast]
  omega

/-- The comparison of a row number with an index word, widened and converted, is 1 where they agree and 0 elsewhere. -/
theorem hot (o : Fin 512) (w : BitVec 32) (h : w.toNat < 512) :
    (FloatOps.sitofp (F := Ideal) FTy.f32 (BitVec.setWidth 32 (IntOp.cmpi CmpIPredicate.eq (BitVec.ofNat 32 (o : ℕ)) w)) : EReal)
      = if o = col w then 1 else 0 := by
  have hw : (o = col w) ↔ BitVec.ofNat 32 (o : ℕ) = w := by
    rw [Fin.ext_iff, col_val w h]
    constructor
    · intro e
      rw [e, BitVec.ofNat_toNat, BitVec.setWidth_eq]
    · intro e
      rw [← e, WordCmp.toNat_ofNat_of_lt (by have := o.isLt; omega)]
  by_cases e : o = col w
  · rw [if_pos e, hw.mp e]
    simp [IntOp.cmpi, FloatOps.sitofp]
  · rw [if_neg e]
    have e' : ¬ BitVec.ofNat 32 (o : ℕ) = w := fun q => e (hw.mpr q)
    have b : (BitVec.ofNat 32 (o : ℕ) == w) = false := by simpa using e'
    simp [IntOp.cmpi, FloatOps.sitofp, b]

/-- A sum against a one-hot column picks that column's term. No finiteness is needed: a product with 0 is 0. -/
theorem sum_hot (f : Fin 512 → EReal) (a : Fin 512) : ∑ o : Fin 512, f o * (if o = a then 1 else 0) = f a := by
  simp [mul_ite]

/-! ## The block-diagonal weights -/

/-- Eight copies below one another of the 16 rows, then eight copies side by side. -/
theorem pay3_at (W : Vec Ideal S16x128 .f32) (k : Fin 128) (j : Fin 1024) :
    k0_pay3 (F := Ideal) W (ix2 k j) = W (ix2 ⟨(k : ℕ) % 16, by omega⟩ ⟨(j : ℕ) % 128, by omega⟩) := by
  unfold k0_pay3
  refine (concatenate_replicate_apply (t := S128x1024) (1 : Fin 2) 8 _ concatenates_S128x128_S128x128_S128x128_S128x128_S128x128_S128x128_S128x128_S128x128_S128x1024_d1 rfl (ix2 k j) (ix2 k ⟨(j : ℕ) % 128, by omega⟩) rfl ?_).trans ?_
  · intro b hb
    match b with
    | ⟨0, _⟩ => rfl
    | ⟨1, _⟩ => exact absurd rfl hb
  · refine concatenate_replicate_apply (t := S128x128) (0 : Fin 2) 8 _ concatenates_S16x128_S16x128_S16x128_S16x128_S16x128_S16x128_S16x128_S16x128_S128x128_d0 rfl _ _ rfl ?_
    intro b hb
    match b with
    | ⟨0, _⟩ => exact absurd rfl hb
    | ⟨1, _⟩ => rfl

/-- Four copies below one another of the 32 rows, then four copies side by side. -/
theorem pay8_at (W : Vec Ideal S32x128 .f32) (k : Fin 128) (j : Fin 512) :
    k0_pay8 (F := Ideal) W (ix2 k j) = W (ix2 ⟨(k : ℕ) % 32, by omega⟩ ⟨(j : ℕ) % 128, by omega⟩) := by
  unfold k0_pay8
  refine (concatenate_replicate_apply (t := S128x512) (1 : Fin 2) 4 _ concatenates_S128x128_S128x128_S128x128_S128x128_S128x512_d1 rfl (ix2 k j) (ix2 k ⟨(j : ℕ) % 128, by omega⟩) rfl ?_).trans ?_
  · intro b hb
    match b with
    | ⟨0, _⟩ => rfl
    | ⟨1, _⟩ => exact absurd rfl hb
  · refine concatenate_replicate_apply (t := S128x128) (0 : Fin 2) 4 _ concatenates_S32x128_S32x128_S32x128_S32x128_S128x128_d0 rfl _ _ rfl ?_
    intro b hb
    match b with
    | ⟨0, _⟩ => exact absurd rfl hb
    | ⟨1, _⟩ => rfl

/-- The kernel's integer division rounding down, as it is written out: the truncated quotient, less one where the signs
    differ and the remainder is not zero. -/
def floorDiv (a c : BitVec 32) : BitVec 32 :=
  Scalar.select
    (IntOp.andi
      (IntOp.cmpi CmpIPredicate.ne
        (IntOp.subi (BitVec.setWidth 32 (IntOp.cmpi CmpIPredicate.sgt a 0#32))
          (BitVec.setWidth 32 (IntOp.cmpi CmpIPredicate.slt a 0#32)))
        (Scalar.subi (Scalar.extui (Scalar.cmpi CmpIPredicate.sgt c 0#32))
          (Scalar.extui (Scalar.cmpi CmpIPredicate.slt c 0#32))))
      (IntOp.cmpi CmpIPredicate.ne (IntOp.remsi ArithUnit.vector a c) 0#32))
    (IntOp.subi (IntOp.divsi ArithUnit.vector a c) 1#32)
    (IntOp.divsi ArithUnit.vector a c)

/-- Row numbers below 128 divided by 16. -/
theorem floorDiv_16 : ∀ k : Fin 128, floorDiv (BitVec.ofNat 32 (k : ℕ)) 16#32 = BitVec.ofNat 32 ((k : ℕ) / 16) := by
  decide +kernel

/-- Row numbers below 128 divided by 32. -/
theorem floorDiv_32 : ∀ k : Fin 128, floorDiv (BitVec.ofNat 32 (k : ℕ)) 32#32 = BitVec.ofNat 32 ((k : ℕ) / 32) := by
  decide +kernel

/-- Column numbers below 1024 divided by 128. -/
theorem floorDiv_128 : ∀ j : Fin 1024, floorDiv (BitVec.ofNat 32 (j : ℕ)) 128#32 = BitVec.ofNat 32 ((j : ℕ) / 128) := by
  decide +kernel

/-- Column numbers below 512 divided by 128. -/
theorem floorDiv_128' (j : Fin 512) : floorDiv (BitVec.ofNat 32 (j : ℕ)) 128#32 = BitVec.ofNat 32 ((j : ℕ) / 128) :=
  floorDiv_128 ⟨(j : ℕ), by omega⟩

/-- A choice on two small numbers' words being equal is a choice on the numbers being equal. -/
theorem select_eq (a b : ℕ) (ha : a < 64) (hb : b < 64) (x y : EReal) :
    Scalar.select (IntOp.cmpi CmpIPredicate.eq (BitVec.ofNat 32 a) (BitVec.ofNat 32 b)) x y = if a = b then x else y := by
  word_cmp

/-- Of the eight by eight blocks of 16 by 128 entries, the ones off the diagonal are zero. -/
theorem pay7_at (v : Vec Ideal S128x1024 .f32) (k : Fin 128) (j : Fin 1024) :
    k0_pay7 (F := Ideal) v (iota .tc S128x1024 32 [0] iota_S128x1024_d0_w32) 16#32 k0_pay4 k0_pay5 k0_pay6 (ix2 k j)
      = if (k : ℕ) / 16 = (j : ℕ) / 128 then v (ix2 k j) else 0 := by
  pointwise [k0_pay7, k0_pay4, k0_pay5, k0_pay6]
  change Scalar.select (IntOp.cmpi CmpIPredicate.eq (floorDiv (BitVec.ofNat 32 (k : ℕ)) 16#32)
    (floorDiv (BitVec.ofNat 32 (j : ℕ)) 128#32)) (v (ix2 k j)) (0 : EReal) = _
  rw [floorDiv_16, floorDiv_128]
  exact select_eq _ _ (by omega) (by omega) _ _

/-- Of the four by four blocks of 32 by 128 entries, the ones off the diagonal are zero. -/
theorem pay11_at (v : Vec Ideal S128x512 .f32) (k : Fin 128) (j : Fin 512) :
    k0_pay11 (F := Ideal) v (iota .tc S128x512 32 [0] iota_S128x512_d0_w32) 32#32 k0_pay9 k0_pay10 (ix2 k j)
      = if (k : ℕ) / 32 = (j : ℕ) / 128 then v (ix2 k j) else 0 := by
  pointwise [k0_pay11, k0_pay9, k0_pay10]
  change Scalar.select (IntOp.cmpi CmpIPredicate.eq (floorDiv (BitVec.ofNat 32 (k : ℕ)) 32#32)
    (floorDiv (BitVec.ofNat 32 (j : ℕ)) 128#32)) (v (ix2 k j)) (0 : EReal) = _
  rw [floorDiv_32, floorDiv_128']
  exact select_eq _ _ (by omega) (by omega) _ _

/-- The second scratch array as the kernel fills it from the two weights. -/
def wcs (Wca : Vec Ideal S16x128 .f32) (Wsro : Vec Ideal S32x128 .f32) : Vec Ideal S256x1536 .bf16 :=
  k0_pay12 (F := Ideal)
    (k0_pay7 (F := Ideal) (k0_pay3 (F := Ideal) Wca) (iota .tc S128x1024 32 [0] iota_S128x1024_d0_w32) 16#32 k0_pay4 k0_pay5 k0_pay6)
    (k0_pay11 (F := Ideal) (k0_pay8 (F := Ideal) Wsro) (iota .tc S128x512 32 [0] iota_S128x512_d0_w32) 32#32 k0_pay9 k0_pay10)

/-- The four quadrants of the second scratch array. -/
theorem pay12_at (v : Vec Ideal S128x1024 .f32) (w : Vec Ideal S128x512 .f32) (k : Fin 256) (j : Fin 1536) :
    k0_pay12 (F := Ideal) v w (ix2 k j)
      = if h : (k : ℕ) < 128 then
          if h' : (j : ℕ) < 1024 then v (ix2 ⟨k, h⟩ ⟨j, h'⟩) else (0 : EReal)
        else if h' : (j : ℕ) < 1024 then (0 : EReal)
          else w (ix2 ⟨(k : ℕ) - 128, by omega⟩ ⟨(j : ℕ) - 1024, by omega⟩) := by
  pointwise [k0_pay12]

/-- In the columns of token `t < 8` only the rows `16 t … 16 t + 15` are not zero, and they hold the first weight. -/
theorem wcs_ca (Wca : Vec Ideal S16x128 .f32) (Wsro : Vec Ideal S32x128 .f32) (k : Fin 256) (t : Fin 8) (l : Fin 128) :
    wcs Wca Wsro (ix2 k ⟨(t : ℕ) * 128 + l, by omega⟩)
      = if (k : ℕ) / 16 = t then Wca (ix2 ⟨(k : ℕ) % 16, by omega⟩ l) else (0 : EReal) := by
  unfold wcs
  rw [pay12_at]
  have hj : (t : ℕ) * 128 + l < 1024 := by omega
  by_cases hk : (k : ℕ) < 128
  · rw [dif_pos hk, dif_pos hj, pay7_at, pay3_at]
    have e : ((t : ℕ) * 128 + l) / 128 = t := by omega
    have e' : ((t : ℕ) * 128 + l) % 128 = l := by omega
    simp only [e, e']
  · rw [dif_neg hk, dif_pos hj, if_neg (by omega)]

/-- In the columns of token `8 + s` only the rows `128 + 32 s … 128 + 32 s + 31` are not zero, and they hold the second
    weight. -/
theorem wcs_sro (Wca : Vec Ideal S16x128 .f32) (Wsro : Vec Ideal S32x128 .f32) (k : Fin 256) (s : Fin 4) (l : Fin 128) :
    wcs Wca Wsro (ix2 k ⟨(8 + (s : ℕ)) * 128 + l, by omega⟩)
      = if (k : ℕ) / 32 = 4 + s then Wsro (ix2 ⟨(k : ℕ) % 32, by omega⟩ l) else (0 : EReal) := by
  unfold wcs
  rw [pay12_at]
  have hj : ¬ (8 + (s : ℕ)) * 128 + l < 1024 := by omega
  by_cases hk : (k : ℕ) < 128
  · rw [dif_pos hk, dif_neg hj, if_neg (by omega)]
  · rw [dif_neg hk, dif_neg hj, pay11_at, pay8_at]
    have e : ((8 + (s : ℕ)) * 128 + l - 1024) / 128 = s := by omega
    have e' : ((8 + (s : ℕ)) * 128 + l - 1024) % 128 = l := by omega
    have e'' : ((k : ℕ) - 128) % 32 = (k : ℕ) % 32 := by omega
    simp only [e, e', e'']
    by_cases q : (k : ℕ) / 32 = 4 + s
    · rw [if_pos q, if_pos (by omega)]
    · rw [if_neg q, if_neg (by omega)]

/-- A sum over 256 rows against a column that is zero off 16 of them is a sum over those. -/
theorem sum_ca (f : Fin 256 → EReal) (g : Fin 16 → EReal) (t : Fin 8) :
    ∑ k : Fin 256, f k * (if (k : ℕ) / 16 = t then g ⟨(k : ℕ) % 16, by omega⟩ else 0)
      = ∑ d : Fin 16, f ⟨(t : ℕ) * 16 + d, by omega⟩ * g d := by
  symm
  refine Fintype.sum_of_injective (fun d : Fin 16 => (⟨(t : ℕ) * 16 + d, by omega⟩ : Fin 256)) ?_ _ _ ?_ ?_
  · intro a b h
    have h' : (t : ℕ) * 16 + a = (t : ℕ) * 16 + b := congrArg Fin.val h
    exact Fin.ext (by omega)
  · intro k hk
    have q : ¬ (k : ℕ) / 16 = t := fun q =>
      hk ⟨⟨(k : ℕ) % 16, by omega⟩, Fin.ext (show (t : ℕ) * 16 + (k : ℕ) % 16 = k by omega)⟩
    rw [if_neg q, mul_zero]
  · intro d
    have e : ((t : ℕ) * 16 + d) / 16 = t := by omega
    have e' : ((t : ℕ) * 16 + d) % 16 = d := by omega
    simp only [e, e', if_true]

/-- A sum over 256 rows against a column that is zero off 32 of them is a sum over those. -/
theorem sum_sro (f : Fin 256 → EReal) (g : Fin 32 → EReal) (s : Fin 4) :
    ∑ k : Fin 256, f k * (if (k : ℕ) / 32 = 4 + s then g ⟨(k : ℕ) % 32, by omega⟩ else 0)
      = ∑ d : Fin 32, f ⟨128 + ((s : ℕ) * 32 + d), by omega⟩ * g d := by
  symm
  refine Fintype.sum_of_injective (fun d : Fin 32 => (⟨128 + ((s : ℕ) * 32 + d), by omega⟩ : Fin 256)) ?_ _ _ ?_ ?_
  · intro a b h
    have h' : 128 + ((s : ℕ) * 32 + a) = 128 + ((s : ℕ) * 32 + b) := congrArg Fin.val h
    exact Fin.ext (by omega)
  · intro k hk
    have q : ¬ (k : ℕ) / 32 = 4 + s := fun q =>
      hk ⟨⟨(k : ℕ) % 32, by omega⟩, Fin.ext (show 128 + ((s : ℕ) * 32 + (k : ℕ) % 32) = k by omega)⟩
    rw [if_neg q, mul_zero]
  · intro d
    have e : (128 + ((s : ℕ) * 32 + d)) / 32 = 4 + s := by omega
    have e' : (128 + ((s : ℕ) * 32 + d)) % 32 = d := by omega
    simp only [e, e', if_true]

/-! ## The two products -/

/-- The first 256 columns of the first scratch array are one-hot. -/
theorem ohw_cs (ic : Vec Ideal S1x256 .i32) (il : Vec Ideal S1x64 .i32) (Wrl : Vec Ideal S64x128 .f32)
    (hic : ∀ k : Fin 256, (ic (ix2 0 k)).toNat < 512) (o : Fin 512) (k : Fin 256) :
    k0_pay2 (F := Ideal) ic il Wrl (ix2 o ⟨(k : ℕ), by omega⟩) = if o = col (ic (ix2 0 k)) then (1 : EReal) else 0 := by
  pointwise [k0_pay2]
  exact hot o _ (hic k)

/-- The last 128 columns of the first scratch array: the one-hot columns times the third weight. -/
theorem ohw_rl (ic : Vec Ideal S1x256 .i32) (il : Vec Ideal S1x64 .i32) (Wrl : Vec Ideal S64x128 .f32)
    (hil : ∀ k : Fin 64, (il (ix2 0 k)).toNat < 512) (o : Fin 512) (l : Fin 128) :
    k0_pay2 (F := Ideal) ic il Wrl (ix2 o ⟨256 + (l : ℕ), by omega⟩)
      = ∑ d : Fin 64, (if o = col (il (ix2 0 d)) then (1 : EReal) else 0) * Wrl (ix2 d l) := by
  pointwise [k0_pay2]
  exact Finset.sum_congr rfl fun d _ => by rw [hot o _ (hil d)]

/-- The selected columns times the block-diagonal weights. -/
theorem pay14_at (x : Vec Ideal S2048x512 .f32) (ic : Vec Ideal S1x256 .i32) (il : Vec Ideal S1x64 .i32)
    (Wrl : Vec Ideal S64x128 .f32) (w : Vec Ideal S256x1536 .bf16)
    (hic : ∀ k : Fin 256, (ic (ix2 0 k)).toNat < 512) (r : Fin 2048) (j : Fin 1536) :
    k0_pay14 (F := Ideal) x (k0_pay2 (F := Ideal) ic il Wrl) w (ix2 r j)
      = ∑ k : Fin 256, x (ix2 r (col (ic (ix2 0 k)))) * w (ix2 k j) := by
  pointwise [k0_pay14, k0_pay13]
  refine Finset.sum_congr rfl fun k _ => congrArg (· * _) ?_
  refine (Finset.sum_congr rfl fun o _ => congrArg (_ * ·) (ohw_cs ic il Wrl hic o k)).trans ?_
  exact sum_hot (fun o => x (ix2 r o)) _

/-- Token `t < 8`: 16 selected columns times the first weight. -/
theorem tok_ca (x : Vec Ideal S2048x512 .f32) (ic : Vec Ideal S1x256 .i32) (il : Vec Ideal S1x64 .i32)
    (Wrl : Vec Ideal S64x128 .f32) (Wca : Vec Ideal S16x128 .f32) (Wsro : Vec Ideal S32x128 .f32)
    (hic : ∀ k : Fin 256, (ic (ix2 0 k)).toNat < 512) (r : Fin 2048) (t : Fin 8) (l : Fin 128) :
    k0_pay14 (F := Ideal) x (k0_pay2 (F := Ideal) ic il Wrl) (wcs Wca Wsro) (ix2 r ⟨(t : ℕ) * 128 + l, by omega⟩)
      = ∑ d : Fin 16, x (ix2 r (col (ic (ix2 0 ⟨(t : ℕ) * 16 + d, by omega⟩)))) * Wca (ix2 d l) := by
  rw [pay14_at x ic il Wrl _ hic]
  refine (Finset.sum_congr rfl fun k _ => congrArg (_ * ·) (wcs_ca Wca Wsro k t l)).trans ?_
  exact sum_ca (fun k => x (ix2 r (col (ic (ix2 0 k))))) (fun d => Wca (ix2 d l)) t

/-- Token `8 + s`: 32 selected columns times the second weight. -/
theorem tok_sro (x : Vec Ideal S2048x512 .f32) (ic : Vec Ideal S1x256 .i32) (il : Vec Ideal S1x64 .i32)
    (Wrl : Vec Ideal S64x128 .f32) (Wca : Vec Ideal S16x128 .f32) (Wsro : Vec Ideal S32x128 .f32)
    (hic : ∀ k : Fin 256, (ic (ix2 0 k)).toNat < 512) (r : Fin 2048) (s : Fin 4) (l : Fin 128) :
    k0_pay14 (F := Ideal) x (k0_pay2 (F := Ideal) ic il Wrl) (wcs Wca Wsro) (ix2 r ⟨(8 + (s : ℕ)) * 128 + l, by omega⟩)
      = ∑ d : Fin 32, x (ix2 r (col (ic (ix2 0 ⟨128 + ((s : ℕ) * 32 + d), by omega⟩)))) * Wsro (ix2 d l) := by
  rw [pay14_at x ic il Wrl _ hic]
  refine (Finset.sum_congr rfl fun k _ => congrArg (_ * ·) (wcs_sro Wca Wsro k s l)).trans ?_
  exact sum_sro (fun k => x (ix2 r (col (ic (ix2 0 k))))) (fun d => Wsro (ix2 d l)) s

/-- Over finite values, contracting with one-hot columns times a weight is contracting the selected columns with the
    weight. Distributing a product over a sum is where finiteness is needed. -/
theorem sum_hot_mul (f : Fin 512 → EReal) (g : Fin 64 → EReal) (a : Fin 64 → Fin 512)
    (hf : ∀ o, ∃ z : ℝ, f o = (z : EReal)) (hg : ∀ d, ∃ z : ℝ, g d = (z : EReal)) :
    ∑ o : Fin 512, f o * ∑ d : Fin 64, (if o = a d then (1 : EReal) else 0) * g d = ∑ d : Fin 64, f (a d) * g d := by
  choose F hF using hf
  choose G hG using hg
  have one : ∀ o d, (if o = a d then (1 : EReal) else 0) = (((if o = a d then 1 else 0 : ℝ)) : EReal) := by
    intro o d
    split <;> simp
  simp only [hF, hG, one, ← EReal.coe_mul]
  have cs : ∀ {n : ℕ} (u : Fin n → ℝ), ∑ i, ((u i : ℝ) : EReal) = ((∑ i, u i : ℝ) : EReal) := by
    intro n u
    exact (map_sum (⟨⟨Real.toEReal, EReal.coe_zero⟩, EReal.coe_add⟩ : ℝ →+ EReal) u Finset.univ).symm
  simp only [cs, ← EReal.coe_mul]
  refine congrArg Real.toEReal ?_
  simp only [Finset.mul_sum]
  rw [Finset.sum_comm]
  refine Finset.sum_congr rfl fun d _ => ?_
  simp

/-- The last token: 64 selected columns times the third weight. -/
theorem tok_rl (x : Vec Ideal S2048x512 .f32) (ic : Vec Ideal S1x256 .i32) (il : Vec Ideal S1x64 .i32)
    (Wrl : Vec Ideal S64x128 .f32) (hil : ∀ k : Fin 64, (il (ix2 0 k)).toNat < 512)
    (hx : ∀ (r : Fin 2048) (o : Fin 512), ∃ z : ℝ, x (ix2 r o) = (z : EReal))
    (hW : ∀ (d : Fin 64) (l : Fin 128), ∃ z : ℝ, Wrl (ix2 d l) = (z : EReal)) (r : Fin 2048) (l : Fin 128) :
    k0_pay13 (F := Ideal) x (k0_pay2 (F := Ideal) ic il Wrl) (ix2 r ⟨256 + (l : ℕ), by omega⟩)
      = ∑ d : Fin 64, x (ix2 r (col (il (ix2 0 d)))) * Wrl (ix2 d l) := by
  pointwise [k0_pay13]
  refine (Finset.sum_congr rfl fun o _ => congrArg (_ * ·) (ohw_rl ic il Wrl hil o l)).trans ?_
  exact sum_hot_mul (fun o => x (ix2 r o)) (fun d => Wrl (ix2 d l)) (fun d => col (il (ix2 0 d))) (hx r) (fun d => hW d l)

end Cert.KernelIdeal.Value
-- ==== Proof.Block.lean ====
/- What one grid point leaves: its output block and the two scratch arrays. The first point fills the scratch arrays, the
   later ones keep them, so every point's block is one function of that point's rows and of the call's arguments. The host
   lines before the call are read too. -/
module

public import Idealize.ShloMosaic.Lib.Pipeline.ReadBack
public import proofs.«01_k».proof.Proof.Pure

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Which block of each array a grid point's staged buffer is. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![0, t.val, 0] :=
  (by decide +kernel : ∀ t : Fin grid0.N, _)

/-- Every grid point is handed the whole row of column words of the first two groups. -/
theorem b0 (c : Dev nD) (t : Fin cfg0.N) : iblk m c 0 t = V m c main_v3 := by
  funext y
  blk_ext [iblk, V, idx t]
/-- The row of column words of the last group, whole. -/
theorem b1 (c : Dev nD) (t : Fin cfg0.N) : iblk m c 1 t = V m c main_v4 := by
  funext y
  blk_ext [iblk, V, idx t]
/-- The weights of the first group, whole. -/
theorem b2 (c : Dev nD) (t : Fin cfg0.N) : iblk m c 2 t = m ((c.tc : Thread nD τ).loc main_arg4) := by
  funext y
  blk_ext [iblk, V, idx t]
/-- The weights of the second group, whole. -/
theorem b3 (c : Dev nD) (t : Fin cfg0.N) : iblk m c 3 t = m ((c.tc : Thread nD τ).loc main_arg6) := by
  funext y
  blk_ext [iblk, V, idx t]
/-- The weights of the last group, whole. -/
theorem b4 (c : Dev nD) (t : Fin cfg0.N) : iblk m c 4 t = m ((c.tc : Thread nD τ).loc main_arg8) := by
  funext y
  blk_ext [iblk, V, idx t]
/-- The embeddings, whole. -/
theorem b5 (c : Dev nD) (t : Fin cfg0.N) : iblk m c 5 t = m ((c.tc : Thread nD τ).loc main_arg10) := by
  funext y
  blk_ext [iblk, V, idx t]

/-- The observations come in blocks of 2048 rows, one for each grid point. -/
theorem b6 (c : Dev nD) (t : Fin cfg0.N) (r : Fin 2048) (o : Fin 512) (h : t.val * 2048 + (r : ℕ) < 16384) :
    iblk m c 6 t (ix2 r o) = m ((c.tc : Thread nD τ).loc main_arg0) (ix2 ⟨t.val * 2048 + (r : ℕ), h⟩ o) := by
  blk_ext [iblk, V, idx t]

/-- The output block from a block of rows `x`, the column selector `o`, the block-diagonal weights `w` and the embeddings
    `e`: tokens below 12 read the second product, the last token the first. -/
def BODY (x : Vec Ideal S2048x512 .f32) (o : Vec Ideal S512x384 .bf16) (w : Vec Ideal S256x1536 .bf16)
    (e : Vec Ideal S13x128 .f32) : Vec Ideal S13x2048x128 .f32 := fun y =>
  (if h : (y 0 : ℕ) < 12 then
      k0_pay14 (F := Ideal) x o w (ix2 (y 1) ⟨(y 0 : ℕ) * 128 + (y 2 : ℕ), by have : (y 2 : ℕ) < 128 := (y 2).isLt; omega⟩)
    else k0_pay13 (F := Ideal) x o (ix2 (y 1) ⟨256 + (y 2 : ℕ), by have : (y 2 : ℕ) < 128 := (y 2).isLt; omega⟩))
  + e (ix2 (y 0) (y 2))

/-- The first grid point fills the first scratch array with the column selector. -/
theorem sel_A (c : Dev nD) (t : Fin cfg0.N) (h : t.val % 8 = 0) : (outsAt0 m c t.val t.isLt).2.1
    = k0_pay2 (F := Ideal) (iblk m c 0 t) (iblk m c 1 t) (iblk m c 4 t) := by
  rw [outsAt0_A m c t h]; frame_out
/-- The first grid point fills the second scratch array with the block-diagonal weights. -/
theorem wts_A (c : Dev nD) (t : Fin cfg0.N) (h : t.val % 8 = 0) : (outsAt0 m c t.val t.isLt).2.2
    = wcs (iblk m c 2 t) (iblk m c 3 t) := by
  rw [outsAt0_A m c t h]; frame_out; rfl

set_option maxHeartbeats 4000000 in
/-- The first grid point's output block is `BODY` of its rows and of what it has just put into the scratch arrays. -/
theorem out_A (c : Dev nD) (t : Fin cfg0.N) (h : t.val % 8 = 0) : (outsAt0 m c t.val t.isLt).1
    = BODY (iblk m c 6 t) (k0_pay2 (F := Ideal) (iblk m c 0 t) (iblk m c 1 t) (iblk m c 4 t)) (wcs (iblk m c 2 t) (iblk m c 3 t)) (iblk m c 5 t) := by
  rw [outsAt0_A m c t h]
  frame_out
  funext y
  unfold BODY wcs
  canon_tiles x h
  all_goals first | rw [dif_pos (show (y 0 : ℕ) < 12 by omega)] | rw [dif_neg (show ¬ (y 0 : ℕ) < 12 by omega)]
  all_goals
    pointwise [k0_pay1, k0_pay15, k0_pay16, k0_pay17, k0_pay18, k0_pay19, k0_pay20, k0_pay21, k0_pay22, k0_pay23,
      k0_pay24, k0_pay25, k0_pay26, k0_pay27, k0_pay28, k0_pay29]
    refine Ideal.add_congr ?_ ?_
    · blk_ext
    · blk_ext

set_option maxHeartbeats 4000000 in
/-- A later grid point writes the same block from the scratch contents the point before left, and keeps them. -/
theorem out_B (c : Dev nD) (t : Fin cfg0.N) (h : ¬ t.val % 8 = 0) (ht : t.val - 1 < cfg0.N) (o : Vec Ideal S512x384 .bf16)
    (w : Vec Ideal S256x1536 .bf16) (ho : (outsAt0 m c (t.val - 1) ht).2.1 = o) (hw : (outsAt0 m c (t.val - 1) ht).2.2 = w) :
    outsAt0 m c t.val t.isLt = (BODY (iblk m c 6 t) o w (iblk m c 5 t), o, w) := by
  rw [outsAt0_B m c t h]
  refine Prod.ext ?_ (Prod.ext ?_ ?_)
  · frame_out
    simp only [ho, hw, read_unread_whole]
    funext y
    unfold BODY
    canon_tiles x h
    all_goals first | rw [dif_pos (show (y 0 : ℕ) < 12 by omega)] | rw [dif_neg (show ¬ (y 0 : ℕ) < 12 by omega)]
    all_goals
      pointwise [k0_pay1, k0_pay15, k0_pay16, k0_pay17, k0_pay18, k0_pay19, k0_pay20, k0_pay21, k0_pay22, k0_pay23,
        k0_pay24, k0_pay25, k0_pay26, k0_pay27, k0_pay28, k0_pay29]
      refine Ideal.add_congr ?_ ?_
      · blk_ext
      · blk_ext
  · exact ho
  · exact hw

/-- The column selector kept in the first scratch array: from the index rows and the weights of the last group. -/
abbrev SEL (c : Dev nD) : Vec Ideal S512x384 .bf16 :=
  k0_pay2 (F := Ideal) (V m c main_v3) (V m c main_v4) (m ((c.tc : Thread nD τ).loc main_arg8))
/-- The block-diagonal weights kept in the second scratch array. -/
abbrev WTS (c : Dev nD) : Vec Ideal S256x1536 .bf16 :=
  wcs (m ((c.tc : Thread nD τ).loc main_arg4)) (m ((c.tc : Thread nD τ).loc main_arg6))

/-- After every grid point the output block is `BODY` of the point's rows, and both scratch arrays are as the first
    point filled them. -/
theorem outs (c : Dev nD) : ∀ (n : ℕ) (hn : n < cfg0.N), outsAt0 m c n hn
    = (BODY (iblk m c 6 ⟨n, hn⟩) (SEL m c) (WTS m c) (m ((c.tc : Thread nD τ).loc main_arg10)), SEL m c, WTS m c) := by
  intro n
  induction n with
  | zero =>
    intro hn
    refine Prod.ext ?_ (Prod.ext ?_ ?_)
    · refine (out_A m c ⟨0, hn⟩ rfl).trans ?_
      rw [b0, b1, b2, b3, b4, b5]
    · refine (sel_A m c ⟨0, hn⟩ rfl).trans ?_
      rw [b0, b1, b4]
    · refine (wts_A m c ⟨0, hn⟩ rfl).trans ?_
      rw [b2, b3]
  | succ n ih =>
    intro hn
    have hN : n + 1 < 8 := hn
    have e := ih (Nat.lt_of_succ_lt hn)
    refine (out_B m c ⟨n + 1, hn⟩ (show ¬ (n + 1) % 8 = 0 by omega) (Nat.lt_of_succ_lt hn) (SEL m c) (WTS m c)
      (congrArg (fun p => p.2.1) e) (congrArg (fun p => p.2.2) e)).trans ?_
    rw [b5]

/-- The host line before the call joins the first two groups' column words into one row. -/
theorem entry3 (c : Dev nD) : (V m c main_v3 : IVec S1x256 32) = broadcastInDim S1x256 ![1] bcast_S256_S1x256_1
    (concatenate S256 0 [⟨S128, shapeCast S128 (m ((c.tc : Thread nD τ).loc main_arg1) : IVec S8x16 32) shapeCasts_S8x16_S128⟩,
      ⟨S128, shapeCast S128 (m ((c.tc : Thread nD τ).loc main_arg2) : IVec S4x32 32) shapeCasts_S4x32_S128⟩] concatenates_S128_S128_S256_d0) := by
  show StableHlo.after (List.flatten [hostOps0]) (fun b => m (c, b)) (Proc.devRef .tc main_v3) = _
  simp only [hostOps0, List.flatten_cons, List.flatten_nil, List.append_nil]
  after_results
  rfl

/-- The host line before the call lays the last group's column words out as one row. -/
theorem entry4 (c : Dev nD) : (V m c main_v4 : IVec S1x64 32) = shapeCast S1x64 (m ((c.tc : Thread nD τ).loc main_arg3) : IVec S64 32) shapeCasts_S64_S1x64 := by
  show StableHlo.after (List.flatten [hostOps0]) (fun b => m (c, b)) (Proc.devRef .tc main_v4) = _
  simp only [hostOps0, List.flatten_cons, List.flatten_nil, List.append_nil]
  after_results
  rfl

/-- In the joined row, word `t * 16 + d` is the first group's word `d` of token `t`. -/
theorem entry_ca (c : Dev nD) (t : Fin 8) (d : Fin 16) (h : (t : ℕ) * 16 + (d : ℕ) < 256) :
    (V m c main_v3 : IVec S1x256 32) (ix2 0 ⟨(t : ℕ) * 16 + (d : ℕ), h⟩)
      = (m ((c.tc : Thread nD τ).loc main_arg1) : IVec S8x16 32) (ix2 t d) := by
  rw [entry3]
  pointwise
  exact dif_pos (by omega)

/-- In the joined row, word `128 + (s * 32 + d)` is the second group's word `d` of token `s`. -/
theorem entry_sro (c : Dev nD) (s : Fin 4) (d : Fin 32) (h : 128 + ((s : ℕ) * 32 + (d : ℕ)) < 256) :
    (V m c main_v3 : IVec S1x256 32) (ix2 0 ⟨128 + ((s : ℕ) * 32 + (d : ℕ)), h⟩)
      = (m ((c.tc : Thread nD τ).loc main_arg2) : IVec S4x32 32) (ix2 s d) := by
  rw [entry3]
  pointwise

/-- The last group's row holds its words in order. -/
theorem entry_rl (c : Dev nD) (d : Fin 64) :
    (V m c main_v4 : IVec S1x64 32) (ix2 0 d) = (m ((c.tc : Thread nD τ).loc main_arg3) : IVec S64 32) (ix1 d) := by
  rw [entry4]
  pointwise

end Cert.KernelIdeal.Value
-- ==== Proof.Final.lean ====
/- The kernel's result as one formula: every token row is a sum of named observation columns times a weight row, plus the
   token's embedding. The blocks of the grid are put together, and the trailing transpose is read. -/
module

public import Idealize.ShloMosaic.Lib.Pipeline.FrameTail
public import proofs.«01_k».proof.Proof.Block

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

/-- Token `t` of row `b` at lane `l`: the gathered columns of the token's group times the group's weights, plus the
    embedding. -/
def TOK (obs : Vec Ideal S16384x512 .f32) (ca : IVec S8x16 32) (sro : IVec S4x32 32) (rl : IVec S64 32)
    (Wca : Vec Ideal S16x128 .f32) (Wsro : Vec Ideal S32x128 .f32) (Wrl : Vec Ideal S64x128 .f32) (e : Vec Ideal S13x128 .f32)
    (t : Fin 13) (b : Fin 16384) (l : Fin 128) : EReal :=
  (if h : (t : ℕ) < 8 then ∑ d : Fin 16, obs (ix2 b (col (ca (ix2 ⟨t, h⟩ d)))) * Wca (ix2 d l)
    else if h : (t : ℕ) < 12 then ∑ d : Fin 32, obs (ix2 b (col (sro (ix2 ⟨(t : ℕ) - 8, by omega⟩ d)))) * Wsro (ix2 d l)
    else ∑ d : Fin 64, obs (ix2 b (col (rl (ix1 d)))) * Wrl (ix2 d l))
  + e (ix2 t l)

/-- A block written from rows `x` holds the tokens of those rows. -/
theorem body_tok (x : Vec Ideal S2048x512 .f32) (ic : IVec S1x256 32) (il : IVec S1x64 32)
    (ca : IVec S8x16 32) (sro : IVec S4x32 32) (rl : IVec S64 32)
    (hca : ∀ (t : Fin 8) (d : Fin 16) (h : (t : ℕ) * 16 + (d : ℕ) < 256), ic (ix2 0 ⟨(t : ℕ) * 16 + (d : ℕ), h⟩) = ca (ix2 t d))
    (hsro : ∀ (s : Fin 4) (d : Fin 32) (h : 128 + ((s : ℕ) * 32 + (d : ℕ)) < 256), ic (ix2 0 ⟨128 + ((s : ℕ) * 32 + (d : ℕ)), h⟩) = sro (ix2 s d))
    (hrl : ∀ d : Fin 64, il (ix2 0 d) = rl (ix1 d))
    (Wca : Vec Ideal S16x128 .f32) (Wsro : Vec Ideal S32x128 .f32) (Wrl : Vec Ideal S64x128 .f32) (e : Vec Ideal S13x128 .f32)
    (rca : ∀ t d, (ca (ix2 t d)).toNat < 512) (rsro : ∀ s d, (sro (ix2 s d)).toNat < 512) (rrl : ∀ d, (rl (ix1 d)).toNat < 512)
    (hx : ∀ r o, ∃ z : ℝ, x (ix2 r o) = z) (hW : ∀ d l, ∃ z : ℝ, Wrl (ix2 d l) = z)
    (obs : Vec Ideal S16384x512 .f32) (r : Fin 2048) (b : Fin 16384) (hobs : ∀ o, x (ix2 r o) = obs (ix2 b o))
    (t : Fin 13) (l : Fin 128) :
    BODY x (k0_pay2 (F := Ideal) ic il Wrl) (wcs Wca Wsro) e (ix3 t r l) = TOK obs ca sro rl Wca Wsro Wrl e t b l := by
  have hic : ∀ k : Fin 256, (ic (ix2 0 k)).toNat < 512 := by
    intro k
    by_cases h : (k : ℕ) < 128
    · have := hca ⟨(k : ℕ) / 16, by omega⟩ ⟨(k : ℕ) % 16, by omega⟩ (by simp only []; omega)
      rw [show k = ⟨((⟨(k : ℕ) / 16, by omega⟩ : Fin 8) : ℕ) * 16 + ((⟨(k : ℕ) % 16, by omega⟩ : Fin 16) : ℕ), by simp only []; omega⟩ from
        Fin.ext (by simp only []; omega), this]
      exact rca _ _
    · have := hsro ⟨((k : ℕ) - 128) / 32, by omega⟩ ⟨((k : ℕ) - 128) % 32, by omega⟩ (by simp only []; omega)
      rw [show k = ⟨128 + (((⟨((k : ℕ) - 128) / 32, by omega⟩ : Fin 4) : ℕ) * 32 + ((⟨((k : ℕ) - 128) % 32, by omega⟩ : Fin 32) : ℕ)), by simp only []; omega⟩ from
        Fin.ext (by simp only []; omega), this]
      exact rsro _ _
  unfold BODY TOK
  refine Ideal.add_congr ?_ rfl
  by_cases h8 : (t : ℕ) < 8
  · rw [dif_pos h8]
    refine (dif_pos (show (t : ℕ) < 12 by omega)).trans ((tok_ca x ic il Wrl Wca Wsro hic r ⟨t, h8⟩ l).trans ?_)
    refine Fin.sum_fin_congr fun d => ?_
    rw [hca ⟨t, h8⟩ d, hobs]
  · rw [dif_neg h8]
    by_cases h12 : (t : ℕ) < 12
    · rw [dif_pos h12]
      have key := tok_sro x ic il Wrl Wca Wsro hic r ⟨(t : ℕ) - 8, by omega⟩ l
      refine (dif_pos (show (t : ℕ) < 12 by omega)).trans (Eq.trans ?_ (key.trans ?_))
      · refine congrArg (k0_pay14 (F := Ideal) x _ _) ?_
        refine congrArg (ix2 r) (Fin.ext ?_)
        show (t : ℕ) * 128 + (l : ℕ) = (8 + ((t : ℕ) - 8)) * 128 + (l : ℕ)
        omega
      · refine Fin.sum_fin_congr fun d => ?_
        rw [hsro ⟨(t : ℕ) - 8, by omega⟩ d, hobs]
    · rw [dif_neg h12]
      refine (dif_neg (show ¬ (t : ℕ) < 12 by omega)).trans ((tok_rl x ic il Wrl (fun k => by rw [hrl]; exact rrl k) hx hW r l).trans ?_)
      refine Fin.sum_fin_congr fun d => ?_
      rw [hrl d, hobs]

variable (m : (ℓ : Loc nD τ sig) → Buf (Elt Ideal) ℓ)

/-- The arguments as the formula takes them. -/
abbrev TOKm (c : Dev nD) : Fin 13 → Fin 16384 → Fin 128 → EReal :=
  TOK (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg6))
    (m ((c.tc : Thread nD τ).loc main_arg8)) (m ((c.tc : Thread nD τ).loc main_arg10))

/-- The pallas call's output array after the run. -/
theorem final (c : Dev nD)
    (rca : ∀ t d, ((m ((c.tc : Thread nD τ).loc main_arg1) : IVec S8x16 32) (ix2 t d)).toNat < 512)
    (rsro : ∀ s d, ((m ((c.tc : Thread nD τ).loc main_arg2) : IVec S4x32 32) (ix2 s d)).toNat < 512)
    (rrl : ∀ d, ((m ((c.tc : Thread nD τ).loc main_arg3) : IVec S64 32) (ix1 d)).toNat < 512)
    (hx : ∀ b o, ∃ z : ℝ, ((m ((c.tc : Thread nD τ).loc main_arg0) : Vec Ideal S16384x512 .f32) (ix2 b o) : EReal) = (z : EReal))
    (hW : ∀ d l, ∃ z : ℝ, ((m ((c.tc : Thread nD τ).loc main_arg8) : Vec Ideal S64x128 .f32) (ix2 d l) : EReal) = (z : EReal)) :
    (dats m 0 c).arrAt 7 (cfgs 0).N = fun j : S13x16384x128.Idx => TOKm m c (j 0) (j 1) (j 2) := by
  refine (dats m 0 c).arrAt_eq_of_covers 7 _ (by decide +kernel) fun t _ y => ?_
  blk_simp
  rw [after0_7, outs]
  have ht : t.val < 8 := t.isLt
  have hy : ((y 1 : Fin 2048) : ℕ) < 2048 := (y 1).isLt
  have E := body_tok (iblk m c 6 ⟨t.val, t.isLt⟩) (V m c main_v3) (V m c main_v4) _ _ _ (entry_ca m c) (entry_sro m c) (entry_rl m c)
    (m ((c.tc : Thread nD τ).loc main_arg4)) (m ((c.tc : Thread nD τ).loc main_arg6)) (m ((c.tc : Thread nD τ).loc main_arg8))
    (m ((c.tc : Thread nD τ).loc main_arg10)) rca rsro rrl
    (fun r o => by rw [b6 m c ⟨t.val, t.isLt⟩ r o (by show t.val * 2048 + (r : ℕ) < 16384; omega)]; exact hx _ _) hW
    (m ((c.tc : Thread nD τ).loc main_arg0)) (y 1) ⟨t.val * 2048 + ((y 1 : Fin 2048) : ℕ), by omega⟩
    (fun o => b6 m c ⟨t.val, t.isLt⟩ (y 1) o (by show t.val * 2048 + ((y 1 : Fin 2048) : ℕ) < 16384; omega)) (y 0) (y 2)
  refine Eq.trans ?_ (E.trans ?_)
  · blk_ext
  · have e0 : (y 0 : Fin 13) = (win0_7.blk t).view.emb y 0 := Fin.ext (by blk_simp [idx t])
    have e1 : (⟨t.val * 2048 + ((y 1 : Fin 2048) : ℕ), by omega⟩ : Fin 16384) = (win0_7.blk t).view.emb y 1 := Fin.ext (by blk_simp [idx t])
    have e2 : (y 2 : Fin 128) = (win0_7.blk t).view.emb y 2 := Fin.ext (by blk_simp [idx t])
    rw [← e0, ← e1, ← e2]

/-- The result array after the host operation that follows the call: the output with its first two axes swapped. -/
theorem result_read (c : Dev nD) : Pipeline.afterTail₀ cfgs (dats m) 0 (V0 m) [hostOps1] c main_v6
    = transpose S16384x13x128 [1, 0, 2] ((dats m 0 c).arrAt 7 (cfgs 0).N : Vec Ideal S13x16384x128 .f32) transposes_S13x16384x128_S16384x13x128_1_0_2 := by
  unfold Pipeline.afterTail₀
  simp only [hostOps1, List.flatten_cons, List.flatten_nil, List.append_nil]
  after_results
  exact congrArg (fun z => transpose S16384x13x128 [1, 0, 2] z transposes_S13x16384x128_S16384x13x128_1_0_2)
    (Pipeline.withArrays_arr (cfgs 0).spec launch0.win.arr_inj c _ _ 7)

end Cert.KernelIdeal.Value
-- ==== Proof.Ref.lean ====
/- The reference's result read at an index: the same formula as the kernel's. -/
module

public import Idealize.ShloMosaic.Lib.ReduceAll
public import Idealize.ShloMosaic.Lib.WordCmp
public import proofs.«01_k».proof.Proof.Final
public import proofs.«01_k».proof.Proof.Gen.ReferenceIdeal.Read

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.ReferenceIdeal.Read
open Cert.KernelIdeal.Value (col TOK)

/-- Wrapping a negative index leaves a word below 512 as it is. -/
theorem wrap (w : BitVec 32) (h : w.toNat < 512) : Scalar.select (IntOp.cmpi .slt w 0#32) (IntOp.addi w 512#32) w = w := by
  rw [WordCmp.cmpi_slt_zero, decide_eq_false (by omega)]
  rfl

/-- The two-sided range check of a word below 512 is 1. -/
theorem in_range (w : BitVec 32) (h : w.toNat < 512) :
    IntOp.andi (IntOp.cmpi .sge w 0#32) (IntOp.cmpi .sle w 511#32) = 1#1 := by
  have e : w.toInt = (w.toNat : Int) := WordCmp.toInt_eq_toNat_of_lt_half (by omega)
  rw [WordCmp.cmpi_sge_zero, WordCmp.cmpi_sle_eq, e, show (511#32 : BitVec 32).toInt = 511 from rfl,
    decide_eq_true (show w.toNat < 2 ^ (32 - 1) by omega), decide_eq_true (show (w.toNat : Int) ≤ 511 by omega)]
  rfl

/-! ## The three gathers -/

/-- A gather of whole columns: the rows pass through and one index word names the column. What each of the three gathers
    has to show is where its word stands (`hk`) and that its row axis is the operand's (`hr`). -/
theorem gather_cols {s u : Shape} (g : GatherDims S16384x512 s u) (x : (⟨S16384x512, .f32⟩ : BufTy).Contents (Elt Ideal))
    (idx : IVec s 32) (y : u.Idx) (b : Fin 16384) (k : s.Idx) (hb : g.operandBatchingDims = []) (h0 : (0 : Fin 2) ∉ g.startIndexMap)
    (h1 : (1 : Fin 2) ∈ g.startIndexMap) (hc : (1 : Fin 2) ∉ g.sKept) (hz : g.sliceSizes 1 = 1) (hr : g.offCoord y 0 = (b : ℕ))
    (hk : g.siIdx y ⟨g.startIndexMap.idxOf 1, List.idxOf_lt_length_iff.2 h1⟩ = k) :
    Host.gather g x idx y = x (ix2 b (col (idx k))) := by
  have nb : ∀ a : Fin 2, a ∉ g.operandBatchingDims := fun a => by rw [hb]; exact List.not_mem_nil
  refine congrArg x (funext fun a => Fin.ext ?_)
  match a with
  | ⟨0, _⟩ =>
    show g.start y idx 0 + g.batchCoord y 0 + g.offCoord y 0 = (b : ℕ)
    have e : g.start y idx 0 = 0 := dif_neg h0
    rw [e, g.batchCoord_eq_zero y 0 (nb 0), hr]
    omega
  | ⟨1, _⟩ =>
    show g.start y idx 1 + g.batchCoord y 1 + g.offCoord y 1 = min (idx k).toInt.toNat 511
    have e : g.start y idx 1 = min (idx k).toInt.toNat (512 - g.sliceSizes 1) := by
      rw [← hk]
      exact dif_pos h1
    rw [e, hz, g.batchCoord_eq_zero y 1 (nb 1), g.offCoord_eq_zero y 1 hc]
    omega

/-- The first gather takes, in every row, the columns the index words name. -/
theorem gather_ca (x : (⟨S16384x512, .f32⟩ : BufTy).Contents (Elt Ideal)) (idx : IVec S8x16x1 32) (b : Fin 16384) (t : Fin 8) (d : Fin 16) :
    Host.gather gather_S16384x512_S8x16x1_S16384x8x16_0_1_n_n_1_2_163841 x idx (ix3 b t d) = x (ix2 b (col (idx (ix3 t d 0)))) :=
  gather_cols _ x idx _ b _ rfl (by decide) (by decide) (by decide) rfl rfl (funext fun a => Fin.ext (by
    match a with | ⟨0, _⟩ => rfl | ⟨1, _⟩ => rfl | ⟨2, _⟩ => rfl))

/-- The second gather, likewise. -/
theorem gather_sro (x : (⟨S16384x512, .f32⟩ : BufTy).Contents (Elt Ideal)) (idx : IVec S4x32x1 32) (b : Fin 16384) (t : Fin 4) (d : Fin 32) :
    Host.gather gather_S16384x512_S4x32x1_S16384x4x32_0_1_n_n_1_2_163841 x idx (ix3 b t d) = x (ix2 b (col (idx (ix3 t d 0)))) :=
  gather_cols _ x idx _ b _ rfl (by decide) (by decide) (by decide) rfl rfl (funext fun a => Fin.ext (by
    match a with | ⟨0, _⟩ => rfl | ⟨1, _⟩ => rfl | ⟨2, _⟩ => rfl))

/-- The last gather, whose indices are a plain list. -/
theorem gather_rl (x : (⟨S16384x512, .f32⟩ : BufTy).Contents (Elt Ideal)) (idx : IVec S64x1 32) (b : Fin 16384) (d : Fin 64) :
    Host.gather gather_S16384x512_S64x1_S16384x64_0_1_n_n_1_1_163841 x idx (ix2 b d) = x (ix2 b (col (idx (ix2 d 0)))) :=
  gather_cols _ x idx _ b _ rfl (by decide) (by decide) (by decide) rfl rfl (funext fun a => Fin.ext (by
    match a with | ⟨0, _⟩ => rfl | ⟨1, _⟩ => rfl))

variable (x0 : (⟨S16384x512, .f32⟩ : BufTy).Contents (Elt Ideal)) (x1 : (⟨S8x16, .i32⟩ : BufTy).Contents (Elt Ideal))
  (x2 : (⟨S4x32, .i32⟩ : BufTy).Contents (Elt Ideal)) (x3 : (⟨S64, .i32⟩ : BufTy).Contents (Elt Ideal))
  (x4 : (⟨S16x128, .f32⟩ : BufTy).Contents (Elt Ideal)) (x5 : (⟨S128, .f32⟩ : BufTy).Contents (Elt Ideal))
  (x6 : (⟨S32x128, .f32⟩ : BufTy).Contents (Elt Ideal)) (x7 : (⟨S128, .f32⟩ : BufTy).Contents (Elt Ideal))
  (x8 : (⟨S64x128, .f32⟩ : BufTy).Contents (Elt Ideal)) (x9 : (⟨S128, .f32⟩ : BufTy).Contents (Elt Ideal))
  (x10 : (⟨S13x128, .f32⟩ : BufTy).Contents (Elt Ideal))

/-! ## The three groups -/

/-- The first group before its embedding. -/
theorem group_ca (h : ∀ t d, (x1 (ix2 t d)).toNat < 512) (z : ∀ l, (x5 (ix1 l) : EReal) = 0) (b : Fin 16384) (t : Fin 8) (l : Fin 128) :
    (val_main_v10 (F := Ideal) x0 x1 x4 x5 (ix3 b t l) : EReal)
      = ∑ d : Fin 16, (x0 (ix2 b (col (x1 (ix2 t d)))) : EReal) * x4 (ix2 d l) := by
  have hb : (val_main_v9 (F := Ideal) x5 (ix3 b t l) : EReal) = 0 := by
    rw [val_main_v9_apply, val_main_v8_apply]
    refine Eq.trans (congrArg x5 (funext fun a => ?_)) (z l)
    match a with | ⟨0, _⟩ => rfl
  rw [val_main_v10_apply, val_main_v7_apply, hb]
  refine (add_zero _).trans (Finset.sum_congr rfl fun d _ => ?_)
  have hl : lidx_main_v7 (ix3 b t l) d = ix3 b t d := funext fun a => by
    match a with | ⟨0, _⟩ => rfl | ⟨1, _⟩ => rfl | ⟨2, _⟩ => rfl
  have hr : ridx_main_v7 (ix3 b t l) d = ix2 d l := funext fun a => by
    match a with | ⟨0, _⟩ => rfl | ⟨1, _⟩ => rfl
  have hi : val_main_v5 (F := Ideal) x1 (ix3 t d 0) = x1 (ix2 t d) := by
    have e : idx_main_v5 (ix3 t d 0) = ix2 t d := funext fun a => by
      match a with | ⟨0, _⟩ => rfl | ⟨1, _⟩ => rfl
    rw [val_main_v5_apply, e]
    exact wrap _ (h t d)
  rw [hl, hr]
  refine congrArg (· * (x4 (ix2 d l) : EReal)) ((gather_ca x0 _ b t d).trans ?_)
  rw [hi]

/-- The second group before its embedding. -/
theorem group_sro (h : ∀ t d, (x2 (ix2 t d)).toNat < 512) (z : ∀ l, (x7 (ix1 l) : EReal) = 0) (b : Fin 16384) (t : Fin 4) (l : Fin 128) :
    (val_main_v21 (F := Ideal) x0 x2 x6 x7 (ix3 b t l) : EReal)
      = ∑ d : Fin 32, (x0 (ix2 b (col (x2 (ix2 t d)))) : EReal) * x6 (ix2 d l) := by
  have hb : (val_main_v20 (F := Ideal) x7 (ix3 b t l) : EReal) = 0 := by
    rw [val_main_v20_apply, val_main_v19_apply]
    refine Eq.trans (congrArg x7 (funext fun a => ?_)) (z l)
    match a with | ⟨0, _⟩ => rfl
  rw [val_main_v21_apply, val_main_v18_apply, hb]
  refine (add_zero _).trans (Finset.sum_congr rfl fun d _ => ?_)
  have hl : lidx_main_v18 (ix3 b t l) d = ix3 b t d := funext fun a => by
    match a with | ⟨0, _⟩ => rfl | ⟨1, _⟩ => rfl | ⟨2, _⟩ => rfl
  have hr : ridx_main_v18 (ix3 b t l) d = ix2 d l := funext fun a => by
    match a with | ⟨0, _⟩ => rfl | ⟨1, _⟩ => rfl
  have hi : val_main_v16 (F := Ideal) x2 (ix3 t d 0) = x2 (ix2 t d) := by
    have e : idx_main_v16 (ix3 t d 0) = ix2 t d := funext fun a => by
      match a with | ⟨0, _⟩ => rfl | ⟨1, _⟩ => rfl
    rw [val_main_v16_apply, e]
    exact wrap _ (h t d)
  rw [hl, hr]
  refine congrArg (· * (x6 (ix2 d l) : EReal)) ((gather_sro x0 _ b t d).trans ?_)
  rw [hi]

/-- The wrapped column words of the last group are the words themselves. -/
theorem words_rl (h : ∀ d, (x3 (ix1 d)).toNat < 512) (d : Fin 64) (k : Fin 1) :
    val_main_call0_v5 (F := Ideal) x3 (ix2 d k) = x3 (ix1 d) := by
  have e : idx_main_call0_v5 (ix2 d k) = ix1 d := funext fun a => by
    match a with | ⟨0, _⟩ => rfl
  rw [val_main_call0_v5_apply, e]
  exact wrap _ (h d)

/-- The last group's range mask is 1 everywhere. -/
theorem mask_rl (h : ∀ d, (x3 (ix1 d)).toNat < 512) (i : S16384x64.Idx) : val_main_call0_v14 (F := Ideal) x3 i = 1#1 := by
  rw [val_main_call0_v14_apply]
  refine Host.reduce_andi_one _ _ _ _ _ rfl fun j => ?_
  have e : j = ix2 (j 0) (j 1) := funext fun a => by
    match a with | ⟨0, _⟩ => rfl | ⟨1, _⟩ => rfl
  rw [val_main_call0_v11_apply, val_main_call0_v7_apply, val_main_call0_v10_apply, e]
  refine (congrArg (fun w => IntOp.andi (IntOp.cmpi .sge w 0#32) (IntOp.cmpi .sle w 511#32)) (words_rl x3 h (j 0) (j 1))).trans ?_
  exact in_range _ (h _)

/-- The last group before its embedding. -/
theorem group_rl (h : ∀ d, (x3 (ix1 d)).toNat < 512) (z : ∀ l, (x9 (ix1 l) : EReal) = 0) (b : Fin 16384) (l : Fin 128) :
    (val_main_v26 (F := Ideal) x0 x3 x8 x9 (ix2 b l) : EReal)
      = ∑ d : Fin 64, (x0 (ix2 b (col (x3 (ix1 d)))) : EReal) * x8 (ix2 d l) := by
  have hb : (val_main_v25 (F := Ideal) x9 (ix2 b l) : EReal) = 0 := by
    rw [val_main_v25_apply, val_main_v24_apply]
    refine Eq.trans (congrArg x9 (funext fun a => ?_)) (z l)
    match a with | ⟨0, _⟩ => rfl
  rw [val_main_v26_apply, val_main_v23_apply, hb]
  refine (add_zero _).trans (Finset.sum_congr rfl fun d _ => ?_)
  have hl : lidx_main_v23 (ix2 b l) d = ix2 b d := funext fun a => by
    match a with | ⟨0, _⟩ => rfl | ⟨1, _⟩ => rfl
  have hr : ridx_main_v23 (ix2 b l) d = ix2 d l := funext fun a => by
    match a with | ⟨0, _⟩ => rfl | ⟨1, _⟩ => rfl
  rw [hl, hr, val_main_v22_apply, mask_rl x3 h]
  refine congrArg (· * (x8 (ix2 d l) : EReal)) ((gather_rl x0 _ b d).trans ?_)
  rw [words_rl x3 h]

/-! ## The result -/

/-- With index words below 512 and zero biases the reference's result is the formula `TOK`. -/
theorem result (h1 : ∀ t d, (x1 (ix2 t d)).toNat < 512) (h2 : ∀ t d, (x2 (ix2 t d)).toNat < 512) (h3 : ∀ d, (x3 (ix1 d)).toNat < 512)
    (z5 : ∀ l, (x5 (ix1 l) : EReal) = 0) (z7 : ∀ l, (x7 (ix1 l) : EReal) = 0) (z9 : ∀ l, (x9 (ix1 l) : EReal) = 0)
    (b : Fin 16384) (t : Fin 13) (l : Fin 128) :
    (val_main_v31 (F := Ideal) x0 x1 x2 x3 x4 x5 x6 x7 x8 x9 x10 (ix3 b t l) : EReal) = TOK x0 x1 x2 x3 x4 x6 x8 x10 t b l := by
  have he : val_main_v30 (F := Ideal) x10 (ix3 b t l) = x10 (ix2 t l) := by
    rw [val_main_v30_apply, val_main_v29_apply]
    refine congrArg x10 (funext fun a => ?_)
    match a with | ⟨0, _⟩ => rfl | ⟨1, _⟩ => rfl
  rw [val_main_v31_apply, he]
  unfold TOK
  refine congrArg (· + (x10 (ix2 t l) : EReal)) ?_
  unfold val_main_v28
  pointwise
  by_cases h : t.val < 8
  · rw [dif_pos h, dif_pos h]
    exact group_ca x0 x1 x4 x5 h1 z5 b ⟨t.val, h⟩ l
  · rw [dif_neg h, dif_neg h]
    by_cases h' : t.val < 12
    · rw [dif_pos (show t.val - 8 < 4 by omega), dif_pos h']
      exact group_sro x0 x2 x6 x7 h2 z7 b ⟨t.val - 8, by omega⟩ l
    · rw [dif_neg (show ¬ t.val - 8 < 4 by omega), dif_neg h', val_main_v27_apply]
      refine Eq.trans (congrArg (val_main_v26 (F := Ideal) x0 x3 x8 x9) (funext fun a => ?_)) (group_rl x0 x3 x8 x9 h3 z9 b l)
      match a with | ⟨0, _⟩ => rfl | ⟨1, _⟩ => rfl

end Cert.ReferenceIdeal.Value
-- ==== Proof.lean ====
/- The claims put together: the two frames of the kernel, the frame of the reference, and the equality of the kernel's and
   the reference's results under the stated precondition. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Pre
public import proofs.«01_k».proof.Proof.Final
public import proofs.«01_k».proof.Proof.Ref
public import Idealize.ShloMosaic.Adequacy
public import Idealize.ShloMosaic.Init

@[expose] public section

noncomputable section

namespace Cert.Proof

open Idealize.ShloMosaic Idealize.ShloMosaic.TcCoe Idealize.SL.Sem

/-- The result both programs end with: at batch row `b`, token `t` and lane `l` the formula `TOK`. -/
def value (m : (ℓ : Loc Cert.KernelIdeal.nD Cert.KernelIdeal.τ Cert.KernelIdeal.sig) → Buf (Elt Ideal) ℓ) (c : Dev Cert.KernelIdeal.nD) :
    Vec Ideal Cert.KernelIdeal.S16384x13x128 .f32 :=
  fun i => Cert.KernelIdeal.Value.TOK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg10)) (i 1) (i 0) (i 2)

section
variable (m : (ℓ : Loc Cert.KernelIdeal.nD Cert.KernelIdeal.τ Cert.KernelIdeal.sig) → Buf (Elt Ideal) ℓ)
  (g : Dev Cert.KernelIdeal.nD → PrngReg) (c : Dev Cert.KernelIdeal.nD)

/-- Every three-coordinate index of the result is the triple of its coordinates. -/
theorem triple (i : Cert.KernelIdeal.S16384x13x128.Idx) : i = ix3 (i 0) (i 1) (i 2) := funext fun a => by
  match a with | ⟨0, _⟩ => rfl | ⟨1, _⟩ => rfl | ⟨2, _⟩ => rfl

/-- The kernel's result array, once its last line has run, is `value`. -/
theorem kernel_value [Cert.Pre_as_drawn.Facts] (hp : Cert.Pre_KernelIdeal_as_drawn m) :
    Pipeline.afterTail₀ Cert.KernelIdeal.cfgs (Cert.KernelIdeal.Gen.dats m) 0 (Cert.KernelIdeal.Gen.V0 m) [Cert.KernelIdeal.Gen.hostOps1] c Cert.KernelIdeal.main_v6
      = value m c := by
  obtain ⟨p1, p2, p3, p4, p5, p6, p7, p8⟩ := hp c
  rw [Cert.KernelIdeal.Value.result_read, Cert.KernelIdeal.Value.final m c (Cert.Pre_as_drawn.range1 _ _ _ _ _ _ _ _ _ _ _ p1)
    (Cert.Pre_as_drawn.range2 _ _ _ _ _ _ _ _ _ _ _ p2) (Cert.Pre_as_drawn.range3 _ _ _ _ _ _ _ _ _ _ _ p3)
    (Cert.Pre_as_drawn.real0 _ _ _ _ _ _ _ _ _ _ _ p7) (Cert.Pre_as_drawn.real8 _ _ _ _ _ _ _ _ _ _ _ p8)]
  funext i
  rw [triple i]
  pointwise
  rfl

/-- The reference's result on the kernel's arguments is `value`. -/
theorem reference_value [Cert.Pre_as_drawn.Facts] (hp : Cert.Pre_KernelIdeal_as_drawn m) :
    Cert.ReferenceIdeal.Read.val_main_v31 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) = value m c := by
  obtain ⟨p1, p2, p3, p4, p5, p6, p7, p8⟩ := hp c
  funext i
  rw [triple i]
  exact Cert.ReferenceIdeal.Value.result _ _ _ _ _ _ _ _ _ _ _ (Cert.Pre_as_drawn.range1 _ _ _ _ _ _ _ _ _ _ _ p1)
    (Cert.Pre_as_drawn.range2 _ _ _ _ _ _ _ _ _ _ _ p2) (Cert.Pre_as_drawn.range3 _ _ _ _ _ _ _ _ _ _ _ p3)
    (Cert.Pre_as_drawn.zero5 _ _ _ _ _ _ _ _ _ _ _ p4) (Cert.Pre_as_drawn.zero7 _ _ _ _ _ _ _ _ _ _ _ p5)
    (Cert.Pre_as_drawn.zero9 _ _ _ _ _ _ _ _ _ _ _ p6) _ _ _

end

/-- The reference leaves its arguments as they were; it has no semaphore at all. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0) :=
  (θ_run Cert.ReferenceIdeal.defs _ _).mono (fun r h => ⟨fun c => (h c).2, sem_eq_zero_of_no_sems rfl r.2⟩) (Cert.ReferenceIdeal.Value.run m g)

/-- All the claims: three frames, the printed kernel against its idealization, and the kernel against the reference. -/
theorem claim : Cert.Claim := ⟨Cert.Kernel.Gen.facts, Cert.KernelIdeal.Gen.facts, Cert.ReferenceIdeal.Gen.facts, Cert.Pre_as_drawn.facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  trivial,
  fun m g m' g' hp ha => ⟨value m, by
    refine (θ_run Cert.KernelIdeal.defs _ _).mono (fun r h c => ⟨?_, h.2 c⟩)
      (θ_run_and (Cert.KernelIdeal.Gen.run_main m g) (Cert.KernelIdeal.Gen.unchanged m g))
    have e := (h.1 c).2 Cert.KernelIdeal.main_v6 (Pipeline.mem_restRefs_of Cert.KernelIdeal.main_v6 (by decide) (by decide))
    letI := Cert.Pre_as_drawn.facts
    exact e.trans (kernel_value m c hp), by
    refine (θ_run Cert.ReferenceIdeal.defs _ _).mono (fun r h c => ⟨?_, (h c).2⟩) (Cert.ReferenceIdeal.Value.run m' g')
    letI := Cert.Pre_as_drawn.facts
    obtain ⟨a0, a1, a2, a3, a4, a5, a6, a7, a8, a9, a10⟩ := ha c
    refine (h c).1.trans ((Cert.ReferenceIdeal.Read.val_main_v31_eq _ _ _ _ _ _ _ _ _ _ _).trans ?_)
    rw [a0, a1, a2, a3, a4, a5, a6, a7, a8, a9, a10]
    exact reference_value m c hp⟩⟩

end Cert.Proof

end
